-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000000 : Shape := ⟨2, ![32, 1000000]⟩
abbrev S32 : Shape := ⟨1, ![32]⟩
abbrev S32x65536 : Shape := ⟨2, ![32, 65536]⟩
abbrev S32x1 : Shape := ⟨2, ![32, 1]⟩

abbrev nBuf : Space → Nat
  | .hbm => 5
  | .vmem => 9
  | .smem => 0
  | _ => 0

abbrev bufTy : (tb : Table) → Fin (tcTables nBuf tb) → BufTy
  | .hbm, ⟨0, _⟩ => ⟨S32x1000000, .f32⟩
  | .hbm, ⟨1, _⟩ => ⟨S32x1000000, .i1⟩
  | .hbm, ⟨2, _⟩ => ⟨S32x1000000, .i8⟩
  | .hbm, ⟨3, _⟩ => ⟨S32x1000000, .f32⟩
  | .hbm, ⟨4, _⟩ => ⟨S32, .i32⟩
  | .local _ .vmem, ⟨0, _⟩ => ⟨S32x65536, .f32⟩
  | .local _ .vmem, ⟨1, _⟩ => ⟨S32x65536, .f32⟩
  | .local _ .vmem, ⟨2, _⟩ => ⟨S32x65536, .i8⟩
  | .local _ .vmem, ⟨3, _⟩ => ⟨S32x65536, .i8⟩
  | .local _ .vmem, ⟨4, _⟩ => ⟨S32x65536, .f32⟩
  | .local _ .vmem, ⟨5, _⟩ => ⟨S32x65536, .f32⟩
  | .local _ .vmem, ⟨6, _⟩ => ⟨S32, .i32⟩
  | .local _ .vmem, ⟨7, _⟩ => ⟨S32x1, .f32⟩
  | .local _ .vmem, ⟨8, _⟩ => ⟨S32x1, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond4 (i : grid0.Coords) : BitVec 1 :=
  let arg0 : BitVec 32 := BitVec.ofNat 32 (i 0).val
  let c15_i32_8 : BitVec 32 := 15#32
  let v12 : BitVec 1 := Scalar.cmpi .eq arg0 c15_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x65536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x1000000 : Shape := ⟨2, ![32, 1000000]⟩
abbrev S_ : Shape := ⟨0, ![]⟩
abbrev S32 : Shape := ⟨1, ![32]⟩

abbrev nBuf : Space → Nat
  | .hbm => 11
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x1000000, .i1⟩
  | .hbm, ⟨2, _⟩ => ⟨S_, .f32⟩
  | .hbm, ⟨3, _⟩ => ⟨S_, .f32⟩
  | .hbm, ⟨4, _⟩ => ⟨S32x1000000, .f32⟩
  | .hbm, ⟨5, _⟩ => ⟨S32x1000000, .f32⟩
  | .hbm, ⟨6, _⟩ => ⟨S32x1000000, .i32⟩
  | .hbm, ⟨7, _⟩ => ⟨S_, .f32⟩
  | .hbm, ⟨8, _⟩ => ⟨S_, .i32⟩
  | .hbm, ⟨9, _⟩ => ⟨S32, .f32⟩
  | .hbm, ⟨10, _⟩ => ⟨S32, .i32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_call1_v0 : Ref sig .tc := ⟨.hbm, 6, rfl⟩
abbrev main_call1_cst : Ref sig .tc := ⟨.hbm, 7, rfl⟩
abbrev main_call1_c : Ref sig .tc := ⟨.hbm, 8, rfl⟩
abbrev main_call1_v1_0 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== Proof.KernelFrame.lean ====
/- The frame of the kernel as run on bits: from any memory, the run ends, both arguments hold what they
   held, and every semaphore counter is back at zero. Nothing is said of the values: every staging
   buffer and both scratch buffers are handed to the body at some contents and taken back at some. -/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, the scratch at some contents between points,
    nothing owed, and no staging contents named. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- The body at any grid point, on any whole buffers: it runs to its end and gives back every buffer it
    was handed, at some contents. -/
theorem body_runs (c : Dev nD) (i : grid0.Coords)
    (a1 : Memref sig .tc .vmem S32x65536 .f32) (h1 : a1.IsWhole) (a2 : Memref sig .tc .vmem S32x65536 .i8) (h2 : a2.IsWhole)
    (a3 : Memref sig .tc .vmem S32x65536 .f32) (h3 : a3.IsWhole) (a4 : Memref sig .tc .vmem S32 .i32) (h4 : a4.IsWhole)
    (a5 : Memref sig .tc .vmem S32x1 .f32) (h5 : a5.IsWhole) (a6 : Memref sig .tc .vmem S32x1 .i32) (h6 : a6.IsWhole)
    (K : PUnit → sProp 𝕄) :
    iprop((∃ X, owns (c : Thread nD τ) a1 fullShare X)
        ∗ (∃ X, owns (c : Thread nD τ) a2 fullShare X)
        ∗ (∃ X, owns (c : Thread nD τ) a3 fullShare X)
        ∗ (∃ X, owns (c : Thread nD τ) a4 fullShare X)
        ∗ (∃ X, owns (c : Thread nD τ) a5 fullShare X)
        ∗ (∃ X, owns (c : Thread nD τ) a6 fullShare X)
        ∗ (iprop((∃ X, owns (c : Thread nD τ) a1 fullShare X) ∗ (∃ X, owns (c : Thread nD τ) a2 fullShare X)
            ∗ (∃ X, owns (c : Thread nD τ) a3 fullShare X) ∗ (∃ X, owns (c : Thread nD τ) a4 fullShare X)
            ∗ (∃ X, owns (c : Thread nD τ) a5 fullShare X) ∗ (∃ X, owns (c : Thread nD τ) a6 fullShare X)) -∗ K ⟨⟩))
      ⊢ wp frame (wpE (defs₀ (F := F)) Variants.none c none) Set.univ
          (cc0__argmax_body i a1 h1 a2 h2 a3 h3 a4 h4 a5 h5 a6 h6) K := by
  simp only [owns, cc0__argmax_body_eq_skeleton]; unfold cc0__argmax_body_skel
  iintro ⟨⟨%X1, %f1, -, H1⟩, ⟨%X2, %f2, -, H2⟩, ⟨%X3, %f3, -, H3⟩, ⟨%X4, %f4, -, H4⟩, ⟨%X5, %f5, -, H5⟩, ⟨%X6, %f6, -, H6⟩, Hk⟩
  sl_exec
  sl_step
  iapply Hk
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  iexists _; iexists _; isplitr; swap; · iexact H6
  ipureintro; rfl

/-- The running maximum's buffer held at some contents, said through the memref the body is called with. -/
theorem scratch0_some (c : Dev nD) :
    iprop(∃ f : Buf (Elt F) ((c : Thread nD τ).loc cc0_scratch0), ((c : Thread nD τ).loc cc0_scratch0) ↦{fullShare} f)
      = (iprop(∃ X, owns (c : Thread nD τ) (Memref.whole cc0_scratch0) fullShare X) : sProp 𝕄) :=
  congrArg _ (funext fun f => (owns_whole (c : Thread nD τ) cc0_scratch0 fullShare f).symm)
/-- The running index's buffer, likewise. -/
theorem scratch1_some (c : Dev nD) :
    iprop(∃ f : Buf (Elt F) ((c : Thread nD τ).loc cc0_scratch1), ((c : Thread nD τ).loc cc0_scratch1) ↦{fullShare} f)
      = (iprop(∃ X, owns (c : Thread nD τ) (Memref.whole cc0_scratch1) fullShare X) : sProp 𝕄) :=
  congrArg _ (funext fun f => (owns_whole (c : Thread nD τ) cc0_scratch1 fullShare f).symm)

/-- Every window is forgotten: its buffer arrives at some contents and leaves at some contents. -/
abbrev fgt : Fin cfg0.W → Bool := fun _ => true

/-- The body at every grid point, on the buffers the pipeline calls it with. -/
theorem body_obligation (c : Dev nD) :
    BodyObligationLoose (dats m 0 c) (defs₀ (F := F)) Variants.none () Set.univ fgt := fun t => by
  rw [bigSep_W0]
  simp only [fgt]
  have hΦ : ∀ k, (dats m 0 c).Φ k = Pipeline.ΦA spec0 c := fun _ => rfl
  rw [hΦ, hΦ, show (dats m 0 c).owesAt () t.succ = (dats m 0 c).owesAt () t.castSucc from rfl]
  unfold Pipeline.ΦA
  rw [scopedRest0_eq, scratch0_some, scratch1_some]
  iintro ⟨⟨⟨H5, H6⟩, Hr⟩, Ho, H1, H2, H3, H4⟩
  iapply (body_runs c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    (Memref.whole cc0_scratch0) (Memref.isWhole_whole _) (Memref.whole cc0_scratch1) (Memref.isWhole_whole _) _)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  isplitl [H5 H6 Hr]
  · isplitl [H5 H6]
    · isplitl [H5]; · iexact H5
      iexact H6
    iexact Hr
  isplitl [Ho]; · iexact Ho
  isplitl [H1]; · iexact H1
  isplitl [H2]; · iexact H2
  isplitl [H3]; · iexact H3
  iexact H4

set_option backward.isDefEq.respectTransparency.types false in
/-- From any memory with every counter at zero, the kernel's program ends, both arguments hold what they
    held, and every counter is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_forget cfgs (dats m) (0 : Fin 1) launch0 defs₀ Variants.none fgt m ρ main
    (body_obligation m) (fun c => (dats m 0 c).share_full fun _ => rfl) (fun _ _ => rfl) (V m) (hmain m Variants.none)
    (fun _ _ => rfl) (fun _ _ => rfl) _
    (fun r h => ⟨fun c => ⟨(h.1.arr_in c 0 rfl).trans (V_main_arg0 m c),
      ((h.1 c).2 main_arg1 (Pipeline.mem_restRefs_of main_arg1 (by decide) (by decide))).trans (V_main_arg1 m c)⟩, h.2⟩)

end Cert.Kernel.Run

end
-- ==== Proof.Body.lean ====
/- What one run of the kernel's body leaves in the buffers it is called on, at the first grid point, at
   the points between, and at the last: the copied block, and the running maximum and its index after
   the block. -/
module

public import proofs.«01_k».proof.Proof.KernelFrame
public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's test for the first grid point. -/
abbrev atFirst (i : grid0.Coords) : Prop :=
  Scalar.cmpi .ne (Scalar.extui (Scalar.cmpi .eq (BitVec.ofNat 32 (i 0).val) 0#32) : BitVec 32) 0#32 = 1#1
/-- The body's test for a point before the last. -/
abbrev beforeLast (i : grid0.Coords) : Prop :=
  Scalar.cmpi .ne (Scalar.extui (Scalar.cmpi .slt (BitVec.ofNat 32 (i 0).val) 15#32) : BitVec 32) 0#32 = 1#1
/-- The body's test for the last point. -/
abbrev atLast (i : grid0.Coords) : Prop :=
  Scalar.cmpi .ne (Scalar.extui (Scalar.cmpi .eq (BitVec.ofNat 32 (i 0).val) 15#32) : BitVec 32) 0#32 = 1#1

/-- The two-axis offsets of every access are zero, -/
theorem off2 : (![0, 0] : Fin 2 → Nat) = fun _ => 0 := funext fun a => by fin_cases a <;> rfl
/-- and so are the one-axis offsets. -/
theorem off1 : (![0] : Fin 1 → Nat) = fun _ => 0 := funext fun a => by fin_cases a; rfl

section Access

variable {S : Shape} {e : EltTy} (a : View sig .tc .vmem S e) (f : a.ty.Contents (Elt F)) {off : Fin S.rank → Nat}
  (h : off = fun _ => 0) (inb : ∀ d, off d + S.size d ≤ S.size d)

include h

/-- A load of the whole buffer reads what the buffer holds. -/
theorem load_all : a.readAt (Elt F) (Rect.unit off S.size inb).toLoadRect f = a.read (Elt F) f :=
  (View.readAt_eq_ld a f _).trans (View.ld_unit_zero h inb _)

/-- After a store over the whole buffer, last, the buffer holds what was stored. -/
theorem read_stored (w : S.Idx → Elt F e) (L : List (View.Piece (Elt F) S e)) :
    a.read (Elt F) (a.writes (Elt F) f ((⟨Rect.unit off S.size inb, w⟩ : View.Piece (Elt F) S e) :: L)) = w :=
  (View.read_writes_eq_canon a f _ fun y => ⟨_, List.mem_cons_self, View.mem_set_unit_zero h inb y⟩).trans
    (View.canon_cons_unit_zero h inb w L)

/-- A load of the whole buffer after a store over the whole buffer reads what was stored. -/
theorem load_stored (w : S.Idx → Elt F e) (L : List (View.Piece (Elt F) S e)) :
    a.readCov ((⟨Rect.unit off S.size inb, w⟩ : View.Piece (Elt F) S e) :: L) (Rect.unit off S.size inb).toLoadRect = w :=
  (View.readCov_eq_canon_ld a _ _ fun y => ⟨_, List.mem_cons_self, View.mem_set_unit_zero h inb y⟩).trans
    ((View.ld_unit_zero h inb _).trans (View.canon_cons_unit_zero h inb w L))

end Access

/-- What the body at grid point `i` makes of the blocks `x` and `b`, the running maximum `v`, its index `k`
    and the result's buffer `o`: at the first point the maximum and index of nothing (negative infinity,
    zero) are taken one full block further; between the first point and the last, `v` and `k` are; at the
    last point `v` and `k` are taken over the columns inside the array, and the index is stored. -/
def Leaves (i : grid0.Coords) (x : S32x65536.Idx → Elt F .f32) (b : S32x65536.Idx → Elt F .i8) (v : S32x1.Idx → Elt F .f32)
    (k : S32x1.Idx → Elt F .i32) (o : S32.Idx → Elt F .i32) (v' : S32x1.Idx → Elt F .f32) (k' : S32x1.Idx → Elt F .i32)
    (o' : S32.Idx → Elt F .i32) : Prop :=
  ((atFirst i ∧ beforeLast i ∧ ¬atLast i ∧ ¬k0_cond4 i = 1#1)
      ∧ v' = k0_pay6 x b k0_pay1 k0_pay1 ∧ k' = k0_pay7 i x b k0_pay1 k0_pay2 ∧ o' = o)
  ∨ ((¬atFirst i ∧ beforeLast i ∧ ¬atLast i ∧ ¬k0_cond4 i = 1#1)
      ∧ v' = k0_pay6 x b v v ∧ k' = k0_pay7 i x b v k ∧ o' = o)
  ∨ ((¬atFirst i ∧ ¬beforeLast i ∧ atLast i ∧ k0_cond4 i = 1#1)
      ∧ v' = k0_pay11 x b v v ∧ k' = k0_pay12 i x b v k ∧ o' = k0_pay13 (F := F) (k0_pay12 i x b v k))

/-- The body on any whole buffers: it leaves the two blocks as they were, the first block's copy, and the
    running maximum, its index and the result's buffer as `Leaves` says. -/
theorem body_leaves (c : Dev nD) (i : grid0.Coords)
    (a1 : Memref sig .tc .vmem S32x65536 .f32) (h1 : a1.IsWhole) (a2 : Memref sig .tc .vmem S32x65536 .i8) (h2 : a2.IsWhole)
    (a3 : Memref sig .tc .vmem S32x65536 .f32) (h3 : a3.IsWhole) (a4 : Memref sig .tc .vmem S32 .i32) (h4 : a4.IsWhole)
    (a5 : Memref sig .tc .vmem S32x1 .f32) (h5 : a5.IsWhole) (a6 : Memref sig .tc .vmem S32x1 .i32) (h6 : a6.IsWhole)
    (x : S32x65536.Idx → Elt F .f32) (b : S32x65536.Idx → Elt F .i8) (y : S32x65536.Idx → Elt F .f32) (o : S32.Idx → Elt F .i32)
    (v : S32x1.Idx → Elt F .f32) (k : S32x1.Idx → Elt F .i32) (v' : S32x1.Idx → Elt F .f32) (k' : S32x1.Idx → Elt F .i32)
    (o' : S32.Idx → Elt F .i32) (hl : Leaves i x b v k o v' k' o') (K : PUnit → sProp 𝕄) :
    iprop(owns (c : Thread nD τ) a1 fullShare x ∗ owns (c : Thread nD τ) a2 fullShare b
        ∗ owns (c : Thread nD τ) a3 fullShare y ∗ owns (c : Thread nD τ) a4 fullShare o
        ∗ owns (c : Thread nD τ) a5 fullShare v ∗ owns (c : Thread nD τ) a6 fullShare k
        ∗ (iprop(owns (c : Thread nD τ) a1 fullShare x ∗ owns (c : Thread nD τ) a2 fullShare b
            ∗ owns (c : Thread nD τ) a3 fullShare x ∗ owns (c : Thread nD τ) a4 fullShare o'
            ∗ owns (c : Thread nD τ) a5 fullShare v' ∗ owns (c : Thread nD τ) a6 fullShare k') -∗ K ⟨⟩))
      ⊢ wp frame (wpE (defs₀ (F := F)) Variants.none c none) Set.univ
          (cc0__argmax_body i a1 h1 a2 h2 a3 h3 a4 h4 a5 h5 a6 h6) K := by
  simp only [owns, cc0__argmax_body_eq_skeleton]; unfold cc0__argmax_body_skel
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5 e6
  rcases hl with ⟨⟨hA, hB, hC, hD⟩, rfl, rfl, rfl⟩ | ⟨⟨hA, hB, hC, hD⟩, rfl, rfl, rfl⟩ | ⟨⟨hA, hB, hC, hD⟩, rfl, rfl, rfl⟩
  all_goals
    sl_exec
    sl_step
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; exact (read_stored _ _ off2 _ _ _).trans (load_all _ _ off2 _)
    isplitl [H4]
    · iexists _; isplitr; swap; · iexact H4
      ipureintro
      first
        | exact rfl
        | sl_unfold_words
          rw [read_stored _ _ off1, load_stored _ off2]
          simp only [load_all (S := S32x65536) _ _ off2, load_all (S := S32x1) _ _ off2]
    isplitl [H5]
    · iexists _; isplitr; swap; · iexact H5
      ipureintro
      sl_unfold_words
      rw [read_stored _ _ off2]
      simp only [load_all (S := S32x65536) _ _ off2, load_all (S := S32x1) _ _ off2, load_stored (S := S32x1) _ off2]
    iexists _; isplitr; swap; · iexact H6
    ipureintro
    sl_unfold_words
    rw [read_stored _ _ off2]
    simp only [load_all (S := S32x65536) _ _ off2, load_all (S := S32x1) _ _ off2, load_stored (S := S32x1) _ off2]

end Cert.KernelIdeal.Run

end
-- ==== Proof.Spec.lean ====
/- The first position of a row's greatest value: what it is, that it is one position, and how a scan over
   consecutive pieces of the row finds it. -/
module

public import Idealize.ShloMosaic.Lib.ValueIdx

@[expose] public section

namespace Cert.Spec

open Idealize.ShloMosaic Idealize.ShloMosaic.ValueIdx

/-- Row `r` of the masked array, as a sequence: the value where the mask is set, minus infinity elsewhere. -/
noncomputable def row (x : Vec Ideal ⟨2, ![32, 1000000]⟩ .f32) (b : Vec Ideal ⟨2, ![32, 1000000]⟩ .i1) (r : Fin 32) (k : ℕ) : EReal :=
  if h : k < 1000000 then (if b (ix2 r ⟨k, h⟩) = 1#1 then x (ix2 r ⟨k, h⟩) else ⊥) else ⊥

/-- Position `i` is the first, among the first `n` positions of the row `f`, whose value is the greatest there. -/
structure IsFirst (f : ℕ → EReal) (n i : ℕ) : Prop where
  lt : i < n
  le : ∀ k < n, f k ≤ f i
  before : ∀ k < i, f k < f i

/-- The least position whose value is the greatest among the first `n`. -/
noncomputable def first (f : ℕ → EReal) (n : ℕ) : ℕ := sInf {i | i < n ∧ ∀ k < n, f k ≤ f i}

/-- A first greatest position is that least position, so there is only one. -/
theorem IsFirst.eq_first {f : ℕ → EReal} {n i : ℕ} (h : IsFirst f n i) : i = first f n := by
  refine le_antisymm (le_csInf ⟨i, h.lt, h.le⟩ fun j hj => ?_) (Nat.sInf_le ⟨h.lt, h.le⟩)
  by_contra hji
  exact absurd (h.before j (not_le.mp hji)) (not_lt.mpr (hj.2 i h.lt))

/-- What a scan of the first `n` positions holds: the greatest value and its first position, and minus
    infinity at position zero before the first piece. -/
structure Upto (f : ℕ → EReal) (n : ℕ) (v : EReal) (i : ℕ) : Prop where
  bound : ∀ k < n, f k ≤ v
  before : ∀ k < i, f k < v
  at_ : (i < n ∧ f i = v) ∨ (n = 0 ∧ i = 0 ∧ v = ⊥)

/-- Before the first piece. -/
theorem Upto.start (f : ℕ → EReal) : Upto f 0 ⊥ 0 :=
  ⟨fun _ h => absurd h (Nat.not_lt_zero _), fun _ h => absurd h (Nat.not_lt_zero _), .inr ⟨rfl, rfl, rfl⟩⟩

/-- After any piece the position held is the first greatest one. -/
theorem Upto.isFirst {f : ℕ → EReal} {n i : ℕ} {v : EReal} (h : Upto f n v i) (hn : 0 < n) : IsFirst f n i := by
  rcases h.at_ with ⟨hi, hv⟩ | ⟨h0, _⟩
  · exact ⟨hi, fun k hk => hv ▸ h.bound k hk, fun k hk => hv ▸ h.before k hk⟩
  · omega

/-- One more piece, from position `n` to position `n'`, of width `w` and padded with minus infinity past
    `n'`: where the piece's greatest value `t` beats the one held, its value and first position replace them. -/
theorem Upto.step {f y : ℕ → EReal} {n n' w i j : ℕ} {v t : EReal} (h : Upto f n v i) (hn : n < n') (hw : n' ≤ n + w)
    (hy : ∀ k < w, y k = if n + k < n' then f (n + k) else ⊥) (ht : ∀ k < w, y k ≤ t) (hj : j < w) (hjt : y j = t)
    (hjf : ∀ k < j, y k ≠ t) :
    Upto f n' (if v < t then t else v) (if v < t then n + j else i) := by
  have old : ∀ k, n ≤ k → k < n' → f k = y (k - n) ∧ k - n < w := fun k h1 h2 => by
    have hk : k - n < w := by omega
    have e : n + (k - n) = k := by omega
    rw [hy _ hk, e, if_pos h2]; exact ⟨rfl, hk⟩
  by_cases hb : v < t
  · rw [if_pos hb, if_pos hb]
    have hjn : n + j < n' := by
      by_contra hge
      rw [hy j hj, if_neg hge] at hjt
      exact absurd hb (hjt ▸ not_lt_bot)
    refine ⟨fun k hk => ?_, fun k hk => ?_, .inl ⟨hjn, ?_⟩⟩
    · by_cases hkn : k < n
      · exact (h.bound k hkn).trans hb.le
      · obtain ⟨e, hkw⟩ := old k (not_lt.mp hkn) hk
        exact e ▸ ht _ hkw
    · by_cases hkn : k < n
      · exact (h.bound k hkn).trans_lt hb
      · obtain ⟨e, hkw⟩ := old k (not_lt.mp hkn) (hk.trans hjn)
        exact e ▸ lt_of_le_of_ne (ht _ hkw) (hjf _ (by omega))
    · have := hy j hj
      rw [if_pos hjn] at this
      rw [← this, hjt]
  · rw [if_neg hb, if_neg hb]
    have htv : t ≤ v := not_lt.mp hb
    refine ⟨fun k hk => ?_, h.before, .inl ?_⟩
    · by_cases hkn : k < n
      · exact h.bound k hkn
      · obtain ⟨e, hkw⟩ := old k (not_lt.mp hkn) hk
        exact e ▸ (ht _ hkw).trans htv
    · rcases h.at_ with ⟨hi, hv⟩ | ⟨h0, hi, hv⟩
      · exact ⟨hi.trans hn, hv⟩
      · subst hi
        refine ⟨by omega, ?_⟩
        obtain ⟨e, hkw⟩ := old 0 (by omega) (by omega)
        rw [hv]
        exact le_bot_iff.mp (e ▸ (ht _ hkw).trans (htv.trans hv.le))

end Cert.Spec
-- ==== Proof.BlockValue.lean ====
/- What one block's arithmetic computes on extended reals, row by row: the row's greatest masked value, the
   first column that holds it, and so one step of the scan that keeps a greatest value and its first position. -/
module

public import proofs.«01_k».proof.Proof.Spec
public import proofs.«01_k».proof.Proof.Gen.KernelIdeal.Skeleton
public import proofs.«01_k».proof.Proof.Gen.KernelIdeal
public import Idealize.ShloMosaic.PureOps.Ideal.Laws
public import Idealize.ShloMosaic.Lib.Pipeline.Value
public import Idealize.ShloMosaic.Lib.SortNet.Extract

@[expose] public section

noncomputable section

namespace Cert.KernelIdeal.Value

open Cert.KernelIdeal Cert.KernelIdeal.Gen Cert.Spec
open Idealize.ShloMosaic Idealize.ShloMosaic.ValueIdx

/-! ## The two reductions of a row -/

/-- The greatest of finitely many values bounds them and is one of them. -/
theorem fold_max_spec {n : ℕ} (hn : 0 < n) (y : Fin n → EReal) :
    (∀ k, y k ≤ (Finset.univ : Finset (Fin n)).fold max ⊥ y) ∧ ∃ k, y k = (Finset.univ : Finset (Fin n)).fold max ⊥ y := by
  refine ⟨fun k => Finset.le_fold_max _ |>.mpr (.inr ⟨k, Finset.mem_univ _, le_rfl⟩), ?_⟩
  obtain ⟨k, _, hk⟩ := Finset.exists_max_image (Finset.univ : Finset (Fin n)) y ⟨⟨0, hn⟩, Finset.mem_univ _⟩
  exact ⟨k, le_antisymm (Finset.le_fold_max _ |>.mpr (.inr ⟨k, Finset.mem_univ _, le_rfl⟩))
    (Finset.fold_max_le _ |>.mpr ⟨bot_le, hk⟩)⟩

/-- The least, as signed words, of the positions where `P` holds, and the greatest word elsewhere: the first such position. -/
theorem fold_min_first {n : ℕ} (hn : n < 2 ^ 31) (P : Fin n → Prop) [DecidablePred P] (j : Fin n) (hj : P j)
    (hfirst : ∀ k, P k → j ≤ k) :
    (Finset.univ : Finset (Fin n)).fold IKind.minsi.op 2147483647#32
      (fun k => if P k then BitVec.ofNat 32 k.val else 2147483647#32) = BitVec.ofNat 32 j.val := by
  have small : ∀ k : Fin n, (BitVec.ofNat 32 k.val).toInt = k.val := fun k => by
    have := k.isLt
    rw [BitVec.toInt_ofNat', Int.bmod_eq_of_le] <;> omega
  have top : (2147483647#32 : BitVec 32).toInt = 2147483647 := rfl
  have hjn := j.isLt
  apply BitVec.eq_of_toInt_eq
  rw [← Finset.fold_hom (op := IKind.minsi.op) (op' := min) (m := BitVec.toInt) (fun a b => SortNet.toInt_minsi a b), small j, top]
  apply le_antisymm
  · refine (Finset.fold_min_le _).mpr (.inr ⟨j, Finset.mem_univ _, ?_⟩)
    rw [if_pos hj, small j]
  · refine (Finset.le_fold_min _).mpr ⟨by omega, fun k _ => ?_⟩
    split
    · next h => rw [small k]; exact Int.ofNat_le.mpr (hfirst k h)
    · rw [top]; omega

/-! ## The payloads over a masked block -/

/-- The greatest value of each row of a block. -/
def rowMax (z : FVec Ideal S32x65536 .f32) : FVec Ideal S32x1 .f32 :=
  shapeCast S32x1 (multiReduction .maximumf [1] S32 z 0xFF800000#32 reduces_S32x65536_S32 (.inl rfl) rfl)
    shapeCasts_S32_S32x1

/-- The first column of each row that holds it. -/
def rowPos (z : FVec Ideal S32x65536 .f32) : IVec S32 32 :=
  multiReductionI .minsi [1] S32
    (select (cmpf .oeq z (broadcastTo S32x65536 (rowMax z) broadcasts_S32x1_S32x65536))
      (iota .tc S32x65536 32 [1] iota_S32x65536_d1_w32) (broadcast S32x65536 2147483647#32))
    2147483647#32 reduces_S32x65536_S32 rfl

/-- The greatest values after the block. -/
def newVal (z : FVec Ideal S32x65536 .f32) (v : FVec Ideal S32x1 .f32) : FVec Ideal S32x1 .f32 :=
  shapeCast S32x1 (select (cmpf .ogt (rowMax z) v) (rowMax z) v) shapeCasts_S32x1_S32x1

/-- Their positions after the block. -/
def newIdx (i : grid0.Coords) (z : FVec Ideal S32x65536 .f32) (v : FVec Ideal S32x1 .f32) (k : IVec S32x1 32) : IVec S32x1 32 :=
  shapeCast S32x1 (select (cmpf .ogt (rowMax z) v)
    (addi (shapeCast S32x1 (rowPos z) shapeCasts_S32_S32x1)
      (broadcast S32x1 (Scalar.muli (BitVec.ofNat 32 (i 0).val) 65536#32))) k) shapeCasts_S32x1_S32x1

variable (x : Vec Ideal S32x65536 .f32) (b : Vec Ideal S32x65536 .i8) (v : Vec Ideal S32x1 .f32) (k : Vec Ideal S32x1 .i32)

/-- The four payloads that update the two running values are these, at the block masked in either way. -/
theorem pay6_eq : k0_pay6 x b v v = newVal (k0_pay3 x b) v := rfl
theorem pay7_eq (i : grid0.Coords) : k0_pay7 i x b v k = newIdx i (k0_pay3 x b) v k := rfl
theorem pay11_eq : k0_pay11 x b v v = newVal (k0_pay8 x b) v := rfl
theorem pay12_eq (i : grid0.Coords) : k0_pay12 i x b v k = newIdx i (k0_pay8 x b) v k := rfl

/-- Inserting a column into a row's index. -/
theorem lift_ix (r : Fin 32) (c : Fin 65536) : reduces_S32x65536_S32.lift (ix1 r) c = ix2 r c := by
  funext d
  match d with
  | ⟨0, _⟩ => rfl
  | ⟨1, _⟩ => rfl

/-- A row's entry read through a cast that adds a unit column. -/
theorem cast_col {α : Type} (w : S32.Idx → α) (r : Fin 32) : shapeCast S32x1 w shapeCasts_S32_S32x1 (ix2 r 0) = w (ix1 r) := by
  refine shapeCast_apply w _ _ _ ?_
  rw [Shape.rowMajor_val_one, Shape.rowMajor_val_two]
  simp

/-- And read back. -/
theorem cast_row {α : Type} (w : S32x1.Idx → α) (r : Fin 32) : shapeCast S32 w shapeCasts_S32x1_S32 (ix1 r) = w (ix2 r 0) := by
  refine shapeCast_apply w _ _ _ ?_
  rw [Shape.rowMajor_val_one, Shape.rowMajor_val_two]
  simp

/-- The pattern of minus infinity is the least extended real. -/
theorem ofBits_bot : (FloatOps.ofBits (F := Ideal) .f32 0xFF800000#32 : EReal) = ⊥ := by
  show Ideal.ofBits .f32 0xFF800000#32 = ⊥
  simp [Ideal.ofBits, Ideal.ieee]

theorem rowMax_apply (z : FVec Ideal S32x65536 .f32) (r : Fin 32) :
    rowMax z (ix2 r 0) = (Finset.univ : Finset (Fin 65536)).fold max ⊥ (fun c => z (ix2 r c)) := by
  refine (cast_col _ r).trans ((Ideal.multiReduction_maximumf_single z _ reduces_S32x65536_S32 _ _ (ix1 r)).trans ?_)
  rw [ofBits_bot]
  refine congrArg (fun g => Finset.fold max ⊥ g (Finset.univ : Finset (Fin 65536))) (funext fun c => ?_)
  exact congrArg z (lift_ix r c)

/-- The word the position reduction reads at a column: the column where it holds the greatest value. -/
theorem pick_apply (z : FVec Ideal S32x65536 .f32) (r : Fin 32) (c : Fin 65536) :
    select (cmpf .oeq z (broadcastTo S32x65536 (rowMax z) broadcasts_S32x1_S32x65536))
      (iota .tc S32x65536 32 [1] iota_S32x65536_d1_w32) (broadcast S32x65536 2147483647#32) (ix2 r c)
      = if z (ix2 r c) = rowMax z (ix2 r 0) then BitVec.ofNat 32 c.val else 2147483647#32 := by
  rw [select_apply, cmpf_apply, iota_single_apply, broadcast_apply,
    broadcastTo_apply _ _ (ix2 r c) (ix2 r 0) (fun a => by match a with | ⟨0, _⟩ => rfl | ⟨1, _⟩ => rfl),
    Ideal.cmpf_def]
  unfold Ideal.cmp Scalar.select
  by_cases h : z (ix2 r c) = rowMax z (ix2 r 0) <;> simp [h]

/-- The greatest value of a row bounds the row's values and is one of them; the position found is its first. -/
theorem row_spec (z : FVec Ideal S32x65536 .f32) (r : Fin 32) :
    (∀ c : Fin 65536, z (ix2 r c) ≤ rowMax z (ix2 r 0))
      ∧ ∃ j : Fin 65536, z (ix2 r j) = rowMax z (ix2 r 0) ∧ (∀ c, z (ix2 r c) = rowMax z (ix2 r 0) → j ≤ c)
        ∧ rowPos z (ix1 r) = BitVec.ofNat 32 j.val := by
  obtain ⟨hle, hex⟩ := fold_max_spec (by norm_num) (fun c : Fin 65536 => z (ix2 r c))
  rw [← rowMax_apply] at hle hex
  refine ⟨hle, ?_⟩
  classical
  let S := Finset.univ.filter fun c : Fin 65536 => z (ix2 r c) = rowMax z (ix2 r 0)
  have hS : S.Nonempty := hex.imp fun c hc => Finset.mem_filter.mpr ⟨Finset.mem_univ _, hc⟩
  have hj := (Finset.mem_filter.mp (S.min'_mem hS)).2
  have hfirst : ∀ c, z (ix2 r c) = rowMax z (ix2 r 0) → S.min' hS ≤ c := fun c hc =>
    S.min'_le c (Finset.mem_filter.mpr ⟨Finset.mem_univ _, hc⟩)
  refine ⟨S.min' hS, hj, hfirst, ?_⟩
  refine (multiReductionI_eq_fold _ _ _ reduces_S32x65536_S32 _ (ix1 r)).trans
    ((reduces_S32x65536_S32.fold_filter_drop_single _ _ _ (ix1 r)).trans ?_)
  rw [← fold_min_first (by norm_num) (fun c : Fin 65536 => z (ix2 r c) = rowMax z (ix2 r 0)) _ hj hfirst]
  refine congrArg (fun g => Finset.fold IKind.minsi.op 2147483647#32 g (Finset.univ : Finset (Fin 65536))) (funext fun c => ?_)
  exact (congrArg _ (lift_ix r c)).trans (pick_apply z r c)

/-! ## One step of the scan -/

/-- The new greatest value of row `r`: the block's where that is greater. -/
theorem newVal_apply (z : FVec Ideal S32x65536 .f32) (v : FVec Ideal S32x1 .f32) (r : Fin 32) :
    newVal z v (ix2 r 0) = if v (ix2 r 0) < rowMax z (ix2 r 0) then rowMax z (ix2 r 0) else v (ix2 r 0) := by
  unfold newVal
  rw [shapeCast_self, select_apply, cmpf_apply, Ideal.cmpf_def]
  unfold Ideal.cmp Scalar.select
  by_cases h : v (ix2 r 0) < rowMax z (ix2 r 0) <;> simp [h]

/-- Its position: the block's first column plus the column found, where the block's value is greater. -/
theorem newIdx_apply (i : grid0.Coords) (z : FVec Ideal S32x65536 .f32) (v : FVec Ideal S32x1 .f32) (k : IVec S32x1 32) (r : Fin 32) :
    newIdx i z v k (ix2 r 0) = if v (ix2 r 0) < rowMax z (ix2 r 0)
      then rowPos z (ix1 r) + BitVec.ofNat 32 (i 0).val * 65536#32 else k (ix2 r 0) := by
  unfold newIdx
  rw [shapeCast_self, select_apply, cmpf_apply, Ideal.cmpf_def]
  have e : addi (shapeCast S32x1 (rowPos z) shapeCasts_S32_S32x1)
      (broadcast S32x1 (Scalar.muli (BitVec.ofNat 32 (i 0).val) 65536#32)) (ix2 r 0)
      = rowPos z (ix1 r) + BitVec.ofNat 32 (i 0).val * 65536#32 :=
    congrArg (· + BitVec.ofNat 32 (i 0).val * 65536#32) (cast_col (rowPos z) r)
  rw [e]
  unfold Ideal.cmp Scalar.select
  by_cases h : v (ix2 r 0) < rowMax z (ix2 r 0) <;> simp [h]

/-- One block continues the scan of a row: the block holds the row's values from its first column up to `n'`,
    and minus infinity past it. -/
theorem block_step (i : grid0.Coords) (z : FVec Ideal S32x65536 .f32) (v : FVec Ideal S32x1 .f32) (k : IVec S32x1 32) (r : Fin 32)
    (f : ℕ → EReal) (n n' p : ℕ) (hi : n = (i 0).val * 65536) (hn : n < n') (hw : n' ≤ n + 65536)
    (hz : ∀ c : Fin 65536, z (ix2 r c) = if n + c.val < n' then f (n + c.val) else ⊥)
    (hv : Upto f n (v (ix2 r 0)) p) (hk : k (ix2 r 0) = BitVec.ofNat 32 p) :
    ∃ p', Upto f n' (newVal z v (ix2 r 0)) p' ∧ newIdx i z v k (ix2 r 0) = BitVec.ofNat 32 p' := by
  obtain ⟨hle, j, hj, hfirst, hpos⟩ := row_spec z r
  have hyc : ∀ c (h : c < 65536), (if n + c < n' then f (n + c) else ⊥) = z (ix2 r ⟨c, h⟩) := fun c h => (hz ⟨c, h⟩).symm
  refine ⟨if v (ix2 r 0) < rowMax z (ix2 r 0) then n + j.val else p, ?_, ?_⟩
  · rw [newVal_apply]
    refine hv.step (y := fun c => if n + c < n' then f (n + c) else ⊥) hn hw (fun _ _ => rfl) (fun c h => ?_) j.isLt ?_
      (fun c h he => ?_)
    · exact (hyc c h).trans_le (hle ⟨c, h⟩)
    · exact (hyc j.val j.isLt).trans hj
    · exact absurd (Fin.le_def.mp (hfirst ⟨c, h.trans j.isLt⟩ ((hyc c (h.trans j.isLt)).symm.trans he))) (not_le.mpr h)
  · rw [newIdx_apply, hpos, hk]
    split
    · rw [hi, Nat.add_comm, BitVec.ofNat_add, BitVec.ofNat_mul]
    · rfl

/-! ## The masked block -/

/-- A block before the last: the value where the mask byte is set, minus infinity elsewhere. -/
theorem pay3_apply (j : S32x65536.Idx) : k0_pay3 x b j = if b j = 0#8 then ⊥ else x j := by
  unfold k0_pay3
  show Scalar.select (IntOp.cmpi .ne (shapeCast S32x65536 b shapeCasts_S32x65536_S32x65536 j) 0#8) (x j)
    (FloatOps.ofBits (F := Ideal) .f32 0xFF800000#32) = _
  rw [shapeCast_self, ofBits_bot]
  unfold Scalar.select IntOp.cmpi
  by_cases h : b j = 0#8
  · simp [h]
  · have e : (b j != 0#8) = true := bne_iff_ne.mpr h
    simp [h, e]

/-- The last block: the same in its first 16960 columns, minus infinity in the others. -/
theorem pay8_apply (r : Fin 32) (c : Fin 65536) :
    k0_pay8 x b (ix2 r c) = if c.val < 16960 then (if b (ix2 r c) = 0#8 then ⊥ else x (ix2 r c)) else ⊥ := by
  unfold k0_pay8
  show Scalar.select (IntOp.andi (IntOp.cmpi .ne (shapeCast S32x65536 b shapeCasts_S32x65536_S32x65536 (ix2 r c)) 0#8)
    (IntOp.cmpi .slt (iota .tc S32x65536 32 [1] iota_S32x65536_d1_w32 (ix2 r c)) 16960#32)) (x (ix2 r c))
    (FloatOps.ofBits (F := Ideal) .f32 0xFF800000#32) = _
  rw [shapeCast_self, ofBits_bot, iota_single_apply]
  have hc : (BitVec.ofNat 32 c.val).slt 16960#32 = decide (c.val < 16960) := by
    have := c.isLt
    have e : (BitVec.ofNat 32 c.val).toInt = c.val := by
      rw [BitVec.toInt_ofNat', Int.bmod_eq_of_le] <;> omega
    have e' : (16960#32 : BitVec 32).toInt = 16960 := rfl
    rw [BitVec.slt, e, e']
    exact decide_eq_decide.mpr (by omega)
  show Scalar.select (IntOp.andi _ (BitVec.ofBool ((BitVec.ofNat 32 c.val).slt 16960#32))) _ _ = _
  rw [hc]
  unfold Scalar.select IntOp.cmpi IntOp.andi
  by_cases h : b (ix2 r c) = 0#8
  · by_cases h' : c.val < 16960 <;> simp [h, h']
  · have e : (b (ix2 r c) != 0#8) = true := bne_iff_ne.mpr h
    by_cases h' : c.val < 16960 <;> simp [h, h', e]

/-- The starting values: minus infinity and zero. -/
theorem pay1_apply (j : S32x1.Idx) : (k0_pay1 (F := Ideal)) j = (⊥ : EReal) := by
  unfold k0_pay1
  show shapeCast S32x1 (broadcast S32x1 (FloatOps.ofBits (F := Ideal) .f32 0xFF800000#32)) shapeCasts_S32x1_S32x1 j = _
  rw [shapeCast_self, broadcast_apply, ofBits_bot]
theorem pay2_apply (j : S32x1.Idx) : k0_pay2 j = 0#32 := by
  unfold k0_pay2
  show shapeCast S32x1 (broadcast S32x1 0#32) shapeCasts_S32x1_S32x1 j = _
  rw [shapeCast_self, broadcast_apply]

/-- The result's block: the positions, as a vector. -/
theorem pay13_apply (r : Fin 32) : k0_pay13 (F := Ideal) k (ix1 r) = k (ix2 r 0) := cast_row k r

end Cert.KernelIdeal.Value

end
-- ==== Proof.Blocks.lean ====
/- What the two input windows' staging buffers hold at a grid point, read at a row and a column: the array's
   element at that row, as many columns on as the blocks before it are wide, wherever that lies inside the
   array. Past the array's end the buffers hold anything. -/
module

public import proofs.«01_k».proof.Proof.Body
public import proofs.«01_k».proof.Proof.BlockValue
public import proofs.«01_k».proof.Proof.Gen.KernelIdeal.Points

@[expose] public section

noncomputable section

namespace Cert.KernelIdeal.Blocks

open Cert.KernelIdeal Cert.KernelIdeal.Gen Cert.KernelIdeal.Value Cert.Spec
open Idealize.ShloMosaic Idealize.ShloMosaic.TcCoe Idealize.ShloMosaic.ValueIdx

/-! ## Where a block lies -/

/-- The block of point `t` starts at row 0 and at column `t · 65536`, -/
theorem start (t : Fin grid0.N) : win0_0.index t 0 * 32 = 0 ∧ win0_0.index t 1 * 65536 = t.val * 65536 := by
  rcases fin_N0 t with rfl | rfl | rfl | rfl | rfl | rfl | rfl | rfl | rfl | rfl | rfl | rfl | rfl | rfl | rfl | rfl <;> decide +kernel
/-- and moves every row and the columns that lie inside the array. -/
theorem extent (t : Fin grid0.N) : win0_0.xsize (grid0.coords t) 0 = 32
    ∧ win0_0.xsize (grid0.coords t) 1 = min 65536 (1000000 - t.val * 65536) := by
  rcases fin_N0 t with rfl | rfl | rfl | rfl | rfl | rfl | rfl | rfl | rfl | rfl | rfl | rfl | rfl | rfl | rfl | rfl <;> decide +kernel
/-- The point's one coordinate is its number. -/
theorem coord (t : Fin grid0.N) : (grid0.coords t 0).val = t.val := by
  rcases fin_N0 t with rfl | rfl | rfl | rfl | rfl | rfl | rfl | rfl | rfl | rfl | rfl | rfl | rfl | rfl | rfl | rfl <;> decide +kernel

/-- The part of the block the transfer moves is the columns inside the array. -/
theorem moved_of_lt (t : Fin grid0.N) (r : Fin 32) (k : Fin 65536) (h : t.val * 65536 + k.val < 1000000) :
    win0_0.moved (grid0.coords t) (ix2 r k) = true := by
  refine (win0_0.moved_iff (grid0.coords t) (ix2 r k)).mpr fun a => ?_
  match a with
  | ⟨0, _⟩ => show r.val < win0_0.xsize (grid0.coords t) 0; rw [(extent t).1]; exact r.isLt
  | ⟨1, _⟩ => show k.val < win0_0.xsize (grid0.coords t) 1; rw [(extent t).2]; have := k.isLt; omega

/-- An element of the block's moved part is the array's element. -/
theorem emb_eq (t : Fin grid0.N) (r : Fin 32) (k : Fin 65536) (h : t.val * 65536 + k.val < 1000000)
    (hm : ∀ a : Fin 2, ((ix2 r k : S32x65536.Idx) a).val < win0_0.xsize (grid0.coords t) a) :
    (win0_0.rect t).emb (fun a => ⟨((ix2 r k : S32x65536.Idx) a).val, hm a⟩) = (ix2 r (⟨t.val * 65536 + k.val, h⟩ : Fin 1000000)) := by
  funext a
  apply Fin.ext
  match a with
  | ⟨0, _⟩ => show win0_0.index t 0 * 32 + 1 * r.val = r.val; rw [(start t).1]; omega
  | ⟨1, _⟩ => show win0_0.index t 1 * 65536 + 1 * k.val = t.val * 65536 + k.val; rw [(start t).2]; omega

variable (m : (ℓ : Loc nD τ sig) → Buf (Elt Ideal) ℓ) (c : Dev nD) (t : Fin grid0.N)

/-- The input's staging buffer just fetched, anything past the array's end. -/
abbrev xbuf (d : S32x65536.Idx → Elt Ideal .f32) : S32x65536.Idx → Elt Ideal .f32 :=
  win0_0.fill (grid0.coords t) d (iblk m c 0 t)
/-- The mask's, likewise. -/
abbrev mbuf (d : S32x65536.Idx → Elt Ideal .i8) : S32x65536.Idx → Elt Ideal .i8 :=
  win0_1.fill (grid0.coords t) d (iblk m c 1 t)

/-- The mask's array as the region finds it: each flag widened to a byte. -/
theorem V_mask : V m c main_v0 = extui 8 (m ((c : Thread nD τ).loc main_arg1)) natLt_1_8 := by
  rfl

/-- The input's buffer at a column inside the array. -/
theorem xbuf_apply (d) (r : Fin 32) (k : Fin 65536) (h : t.val * 65536 + k.val < 1000000) :
    xbuf m c t d (ix2 r k) = m ((c : Thread nD τ).loc main_arg0) (ix2 r (⟨t.val * 65536 + k.val, h⟩ : Fin 1000000)) := by
  refine (dif_pos (moved_of_lt t r k h)).trans ?_
  exact (congrArg (V m c main_arg0) (emb_eq t r k h _)).trans (congrFun (V_main_arg0 m c) _)
/-- The mask's buffer there: zero exactly where the flag is not set. -/
theorem mbuf_apply (d) (r : Fin 32) (k : Fin 65536) (h : t.val * 65536 + k.val < 1000000) :
    mbuf m c t d (ix2 r k) = (m ((c : Thread nD τ).loc main_arg1) (ix2 r (⟨t.val * 65536 + k.val, h⟩ : Fin 1000000)) : BitVec 1).zeroExtend 8 := by
  refine (dif_pos (moved_of_lt t r k h)).trans ?_
  exact (congrArg (V m c main_v0) (emb_eq t r k h _)).trans (congrFun (V_mask m c) _)

end Cert.KernelIdeal.Blocks

end
-- ==== Proof.Scan.lean ====
/- The scan over the grid points: after any number of blocks the running maximum and the running index hold,
   for every row, the greatest masked value so far and its first position; after the last block, the row's. -/
module

public import proofs.«01_k».proof.Proof.Blocks

@[expose] public section

noncomputable section

namespace Cert.KernelIdeal.Scan

open Cert.KernelIdeal Cert.KernelIdeal.Gen Cert.KernelIdeal.Value Cert.KernelIdeal.Blocks Cert.KernelIdeal.Run Cert.Spec
open Idealize.ShloMosaic Idealize.ShloMosaic.TcCoe Idealize.ShloMosaic.ValueIdx

variable (m : (ℓ : Loc nD τ sig) → Buf (Elt Ideal) ℓ) (c : Dev nD) (t : Fin grid0.N)

/-- Row `r` of the masked input. -/
abbrev rowOf (r : Fin 32) : ℕ → EReal := row (m ((c : Thread nD τ).loc main_arg0)) (m ((c : Thread nD τ).loc main_arg1)) r

/-- How many columns the first `n` blocks cover. -/
abbrev seen (n : ℕ) : ℕ := min (n * 65536) 1000000

/-- Before the last, the blocks are whole. -/
theorem seen_before {n : ℕ} (h : n < 16) : seen n = n * 65536 := by unfold seen; omega
/-- With the last, every column is seen. -/
theorem seen_last : seen 16 = 1000000 := by decide

/-- After `n` blocks: for every row, its greatest masked value over the columns seen, and its first position. -/
def Inv (n : ℕ) (v : Vec Ideal S32x1 .f32) (k : Vec Ideal S32x1 .i32) : Prop :=
  ∀ r : Fin 32, ∃ p : ℕ, Upto (rowOf m c r) (seen n) (v (ix2 r 0)) p ∧ k (ix2 r 0) = BitVec.ofNat 32 p

/-- The result: every row's first position of its greatest masked value. -/
def result : S32.Idx → BitVec 32 := fun j => BitVec.ofNat 32 (first (rowOf m c (j 0)) 1000000)

/-- A flag widened to a byte is zero exactly where it is not set. -/
theorem byte_eq_zero : ∀ b : BitVec 1, b.zeroExtend 8 = 0#8 ↔ ¬b = 1#1 := by decide

/-- The masked block at a column inside the array is the row's element. -/
theorem masked_apply (d0) (d1) (r : Fin 32) (k : Fin 65536) (h : t.val * 65536 + k.val < 1000000) :
    (if mbuf m c t d1 (ix2 r k) = 0#8 then (⊥ : EReal) else xbuf m c t d0 (ix2 r k)) = rowOf m c r (t.val * 65536 + k.val) := by
  rw [mbuf_apply m c t d1 r k h, xbuf_apply m c t d0 r k h]
  unfold rowOf row
  rw [dif_pos h]
  by_cases hb : (m ((c : Thread nD τ).loc main_arg1) (ix2 r (⟨t.val * 65536 + k.val, h⟩ : Fin 1000000)) : BitVec 1) = 1#1
  · rw [if_neg (fun e => (byte_eq_zero _).mp e hb), if_pos hb]
  · rw [if_pos ((byte_eq_zero _).mpr hb), if_neg hb]

/-- A block before the last continues the scan. -/
theorem step_before (ht : t.val < 15) (d0) (d1) (v : Vec Ideal S32x1 .f32) (k : Vec Ideal S32x1 .i32) (hv : Inv m c t.val v k) :
    Inv m c (t.val + 1) (k0_pay6 (xbuf m c t d0) (mbuf m c t d1) v v)
      (k0_pay7 (grid0.coords t) (xbuf m c t d0) (mbuf m c t d1) v k) := fun r => by
  obtain ⟨p, hp, hk⟩ := hv r
  have hn := seen_before (n := t.val) (by omega)
  have hn' := seen_before (n := t.val + 1) (by omega)
  rw [pay6_eq, pay7_eq]
  refine block_step (grid0.coords t) _ v k r (rowOf m c r) (seen t.val) (seen (t.val + 1)) p (hn.trans (congrArg (· * 65536) (coord t).symm))
    (by omega) (by omega) (fun k => ?_) hp hk
  have := k.isLt
  rw [pay3_apply, masked_apply m c t d0 d1 r k (by omega), hn, hn', if_pos (by omega)]

/-- The last block ends it. -/
theorem step_last (ht : t.val = 15) (d0) (d1) (v : Vec Ideal S32x1 .f32) (k : Vec Ideal S32x1 .i32) (hv : Inv m c t.val v k) :
    Inv m c (t.val + 1) (k0_pay11 (xbuf m c t d0) (mbuf m c t d1) v v)
      (k0_pay12 (grid0.coords t) (xbuf m c t d0) (mbuf m c t d1) v k) := fun r => by
  obtain ⟨p, hp, hk⟩ := hv r
  have hn := seen_before (n := t.val) (by omega)
  have hn' : seen (t.val + 1) = 1000000 := by rw [ht]; exact seen_last
  rw [pay11_eq, pay12_eq]
  refine block_step (grid0.coords t) _ v k r (rowOf m c r) (seen t.val) (seen (t.val + 1)) p (hn.trans (congrArg (· * 65536) (coord t).symm))
    (by omega) (by omega) (fun k => ?_) hp hk
  rw [pay8_apply, hn, hn']
  by_cases h : k.val < 16960
  · rw [if_pos h, masked_apply m c t d0 d1 r k (by omega), if_pos (by omega)]
  · rw [if_neg h, if_neg (by omega)]

/-- Before any block the starting values hold the empty scan. -/
theorem inv_start : Inv m c 0 (k0_pay1 (F := Ideal)) k0_pay2 := fun r => by
  refine ⟨0, ?_, pay2_apply _⟩
  rw [pay1_apply]
  exact Upto.start _

/-- After the last block the positions held are the result. -/
theorem result_of_inv (v : Vec Ideal S32x1 .f32) (k : Vec Ideal S32x1 .i32) (h : Inv m c 16 v k) :
    k0_pay13 (F := Ideal) k = result m c := funext fun j => by
  obtain ⟨r, rfl⟩ : ∃ r : Fin 32, j = ix1 r := ⟨j 0, eq_ix1 j⟩
  obtain ⟨p, hp, hk⟩ := h r
  rw [pay13_apply, hk, (hp.isFirst (by decide)).eq_first]
  rfl

/-- Which of the body's tests hold at a point. -/
theorem tests : (t.val = 0 → atFirst (grid0.coords t) ∧ beforeLast (grid0.coords t) ∧ ¬atLast (grid0.coords t) ∧ ¬k0_cond4 (grid0.coords t) = 1#1)
    ∧ (t.val ≠ 0 → t.val < 15 → ¬atFirst (grid0.coords t) ∧ beforeLast (grid0.coords t) ∧ ¬atLast (grid0.coords t) ∧ ¬k0_cond4 (grid0.coords t) = 1#1)
    ∧ (t.val = 15 → ¬atFirst (grid0.coords t) ∧ ¬beforeLast (grid0.coords t) ∧ atLast (grid0.coords t) ∧ k0_cond4 (grid0.coords t) = 1#1) := by
  rcases fin_N0 t with rfl | rfl | rfl | rfl | rfl | rfl | rfl | rfl | rfl | rfl | rfl | rfl | rfl | rfl | rfl | rfl <;> decide +kernel

/-- The body at any point, on scratch that holds the scan so far (at the first point, anything), leaves the
    scan one block on; the result's buffer it leaves alone before the last point and fills there. -/
theorem step (d0) (d1) (v : Vec Ideal S32x1 .f32) (k : Vec Ideal S32x1 .i32) (o : Vec Ideal S32 .i32)
    (hv : t.val ≠ 0 → Inv m c t.val v k) :
    ∃ v' k' o', Leaves (F := Ideal) (grid0.coords t) (xbuf m c t d0) (mbuf m c t d1) v k o v' k' o' ∧ Inv m c (t.val + 1) v' k'
      ∧ (t.val ≠ 15 → o' = o) ∧ (t.val = 15 → o' = result m c) := by
  have hN : t.val < 16 := N_0 ▸ t.isLt
  by_cases h0 : t.val = 0
  · refine ⟨_, _, _, .inl ⟨(tests t).1 h0, rfl, rfl, rfl⟩, step_before m c t (by omega) d0 d1 _ _ ?_, fun _ => rfl, fun h => by omega⟩
    rw [h0]; exact inv_start m c
  by_cases h15 : t.val = 15
  · refine ⟨_, _, _, .inr (.inr ⟨(tests t).2.2 h15, rfl, rfl, rfl⟩), step_last m c t h15 d0 d1 _ _ (hv h0), fun h => absurd h15 h, fun _ => ?_⟩
    have h := step_last m c t h15 d0 d1 _ _ (hv h0)
    rw [h15] at h
    exact result_of_inv m c _ _ h
  · exact ⟨_, _, _, .inr (.inl ⟨(tests t).2.1 h0 (by omega), rfl, rfl, rfl⟩), step_before m c t (by omega) d0 d1 _ _ (hv h0), fun _ => rfl, fun h => absurd h h15⟩

end Cert.KernelIdeal.Scan

end
-- ==== Proof.Tracked.lean ====
/- The kernel's run on extended reals, with its scratch buffers followed from point to point: the copied
   array and the positions the two results hold at the end, both arguments unchanged. -/
module

public import proofs.«01_k».proof.Proof.Scan

@[expose] public section

noncomputable section

namespace Cert.KernelIdeal.Tracked

open Cert.KernelIdeal Cert.KernelIdeal.Gen Cert.KernelIdeal.Blocks Cert.KernelIdeal.Run Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The proof data -/

/-- Between points: after at least one block the two scratch buffers hold the scan so far. -/
def held (c : Dev nD) (n : ℕ) : sProp 𝕄 :=
  iprop((∃ (v : Vec Ideal S32x1 .f32) (k : Vec Ideal S32x1 .i32), ⌜n ≠ 0 → Inv m c n v k⌝
      ∗ owns (c : Thread nD τ) (Memref.whole cc0_scratch0) fullShare v
      ∗ owns (c : Thread nD τ) (Memref.whole cc0_scratch1) fullShare k)
    ∗ ∃ r, prngReg c r)

/-- The proof data: after the body the input's and the copy's buffers hold the input's block, the mask's its
    block, the positions' the result; past the array's end, a filler nothing reads. -/
def dats (_ : Fin 1) (c : Dev nD) : Dat τ (Elt Ideal) Unit ℕ (UR sig nD τ) ℕ cfg0 c where
  A w := V m c (Pipeline.arrRef spec0 w)
  after w t := match w with
    | ⟨0, _⟩ => xbuf m c t fun _ => (0 : EReal)
    | ⟨1, _⟩ => mbuf m c t fun _ => 0#8
    | ⟨2, _⟩ => xbuf m c t fun _ => (0 : EReal)
    | ⟨3, _⟩ => result m c
  Φ t := held m c t.val
  q _ := fullShare
  owed _ := 0

/-- What the body finds in the input's buffer and in the mask's: the block just fetched. -/
theorem before_0 (c : Dev nD) (t : Fin cfg0.N) (d) : (dats m 0 c).before (0 : Fin 4) t d = xbuf m c t d := by
  unfold Dat.before; rw [if_pos (fetch0_0 t)]; rfl
theorem before_1 (c : Dev nD) (t : Fin cfg0.N) (d) : (dats m 0 c).before (1 : Fin 4) t d = mbuf m c t d := by
  unfold Dat.before; rw [if_pos (fetch0_1 t)]; rfl

/-- The positions' window is never fetched. -/
theorem fetch_3 (t : Fin cfg0.N) : (cfg0.win (3 : Fin 4)).fetch t = false := by
  rcases fin_N0 t with rfl | rfl | rfl | rfl | rfl | rfl | rfl | rfl | rfl | rfl | rfl | rfl | rfl | rfl | rfl | rfl <;> decide +kernel
/-- It is left alone before the last point. -/
theorem idle_3 (t : Fin cfg0.N) (ht : t.val ≠ 15) : idle0 (3 : Fin 4) (grid0.coords t) = true := by
  revert ht
  rcases fin_N0 t with rfl | rfl | rfl | rfl | rfl | rfl | rfl | rfl | rfl | rfl | rfl | rfl | rfl | rfl | rfl | rfl <;> decide +kernel
theorem idle_3_last (t : Fin cfg0.N) (ht : t.val = 15) : idle0 (3 : Fin 4) (grid0.coords t) = false := by
  revert ht
  rcases fin_N0 t with rfl | rfl | rfl | rfl | rfl | rfl | rfl | rfl | rfl | rfl | rfl | rfl | rfl | rfl | rfl | rfl <;> decide +kernel

/-! ## The body's obligation -/

/-- The body at every grid point, on the buffers the pipeline calls it with. -/
theorem body_obligation (c : Dev nD) :
    BodyObligationLoose (dats m 0 c) (defs₀ (F := Ideal)) Variants.none () Set.univ := fun t => by
  rw [bigSep_W0, bigSep_W0]
  simp only
  have hΦ : (dats m 0 c).Φ t.castSucc = held m c t.val := rfl
  have hΦ' : (dats m 0 c).Φ t.succ = held m c (t.val + 1) := rfl
  rw [hΦ, hΦ', show (dats m 0 c).owesAt () t.succ = (dats m 0 c).owesAt () t.castSucc from rfl]
  unfold held
  iintro ⟨⟨⟨%v, %k, %hv, H5, H6⟩, Hr⟩, Ho, ⟨%d0, H1⟩, ⟨%d1, H2⟩, ⟨%d2, H3⟩, ⟨%d3, H4⟩⟩
  rw [before_0 m c t d0, before_1 m c t d1]
  obtain ⟨v', k', o', hl, hi, hne, heq⟩ := step m c t d0 d1 v k ((dats m 0 c).before (3 : Fin 4) t d3) hv
  iapply (body_leaves c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    (Memref.whole cc0_scratch0) (Memref.isWhole_whole _) (Memref.whole cc0_scratch1) (Memref.isWhole_whole _)
    (xbuf m c t d0) (mbuf m c t d1) ((dats m 0 c).before (2 : Fin 4) t d2) ((dats m 0 c).before (3 : Fin 4) t d3) v k v' k' o' hl _)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  isplitl [H5 H6 Hr]
  · isplitl [H5 H6]
    · iexists v'; iexists k'
      isplitr
      · ipureintro; exact fun _ => hi
      isplitl [H5]; · iexact H5
      iexact H6
    iexact Hr
  isplitl [Ho]; · iexact Ho
  isplitl [H1]
  · iexists d0
    change _ ⊢ owns (c : Thread nD τ) (stage0_0 (cfg0.slots t 0)) fullShare
      (win0_0.fill (grid0.coords t) d0 (win0_0.cut (grid0.coords t) (xbuf m c t fun _ => (0 : EReal))))
    rw [win0_0.cut_fill]; exact BI.Entails.refl _
  isplitl [H2]
  · iexists d1
    change _ ⊢ owns (c : Thread nD τ) (stage0_1 (cfg0.slots t 1)) fullShare
      (win0_1.fill (grid0.coords t) d1 (win0_1.cut (grid0.coords t) (mbuf m c t fun _ => 0#8)))
    rw [win0_1.cut_fill]; exact BI.Entails.refl _
  isplitl [H3]
  · iexists d0
    change _ ⊢ owns (c : Thread nD τ) (stage0_2 (cfg0.slots t 2)) fullShare
      (win0_2.fill (grid0.coords t) d0 (win0_2.cut (grid0.coords t) (xbuf m c t fun _ => (0 : EReal))))
    rw [show win0_2.cut (grid0.coords t) (xbuf m c t fun _ => (0 : EReal)) = iblk m c 0 t from win0_0.cut_fill _ _ _]
    exact BI.Entails.refl _
  by_cases h15 : t.val = 15
  · rw [heq h15]
    rw [idle_3_last t h15]
    iexact H4
  · rw [hne h15]
    have hf : (win0 (3 : Fin 4)).flush t = false := Bool.eq_false_iff.mpr fun h => by
      have := (flush0_3 t).mp h; have : t.val < 16 := N_0 ▸ t.isLt; omega
    rw [idle_3 t h15, hf]
    iexists d3
    iexact H4

/-! ## The run -/

/-- The running maximum's buffer at some contents, said through the memref the body is called with, -/
theorem scratch0_any (c : Dev nD) :
    iprop(∃ f : Buf (Elt Ideal) ((c : Thread nD τ).loc cc0_scratch0), ((c : Thread nD τ).loc cc0_scratch0) ↦{fullShare} f)
      = (iprop(∃ X, owns (c : Thread nD τ) (Memref.whole cc0_scratch0) fullShare X) : sProp 𝕄) :=
  congrArg _ (funext fun f => (owns_whole (c : Thread nD τ) cc0_scratch0 fullShare f).symm)
/-- and the running index's. -/
theorem scratch1_any (c : Dev nD) :
    iprop(∃ f : Buf (Elt Ideal) ((c : Thread nD τ).loc cc0_scratch1), ((c : Thread nD τ).loc cc0_scratch1) ↦{fullShare} f)
      = (iprop(∃ X, owns (c : Thread nD τ) (Memref.whole cc0_scratch1) fullShare X) : sProp 𝕄) :=
  congrArg _ (funext fun f => (owns_whole (c : Thread nD τ) cc0_scratch1 fullShare f).symm)

/-- The invariant starts from scratch at any contents, -/
theorem held_of_any (c : Dev nD) : (Pipeline.ΦA spec0 c : sProp 𝕄) ⊢ (dats m 0 c).Φ 0 := by
  change _ ⊢ held m c 0
  unfold Pipeline.ΦA held
  rw [scopedRest0_eq, scratch0_any, scratch1_any]
  iintro ⟨⟨⟨%v, H5⟩, ⟨%k, H6⟩⟩, Hr⟩
  isplitl [H5 H6]
  · iexists v; iexists k
    isplitr
    · ipureintro; exact fun h => absurd rfl h
    isplitl [H5]; · iexact H5
    iexact H6
  iexact Hr
/-- and at the end what the scratch holds is forgotten. -/
theorem any_of_held (c : Dev nD) : (dats m 0 c).Φ (Fin.last cfg0.N) ⊢ (Pipeline.ΦA spec0 c : sProp 𝕄) := by
  change held m c cfg0.N ⊢ _
  unfold Pipeline.ΦA held
  rw [scopedRest0_eq, scratch0_any, scratch1_any]
  iintro ⟨⟨%v, %k, -, H5, H6⟩, Hr⟩
  isplitl [H5 H6]
  · isplitl [H5]
    · iexists v; iexact H5
    iexists k; iexact H6
  iexact Hr

/-- Every point writes its columns of the input into the first result, -/
theorem flushed_copy (c : Dev nD) (t : Fin cfg0.N) (_ : (cfg0.win (2 : Fin 4)).flush t = true) :
    (dats m 0 c).flushed (2 : Fin 4) t
      = ((cfg0.win (2 : Fin 4)).blk t).view.read (Elt Ideal) (m ((c : Thread nD τ).loc main_arg0)) := by
  change win0_0.cut (grid0.coords t) (xbuf m c t fun _ => (0 : EReal)) = _
  refine (win0_0.cut_fill _ _ _).trans ?_
  exact congrArg ((win0_0.blk t).view.read (Elt Ideal)) (V_main_arg0 m c)

/-- and the points' columns are together all of them: the first result ends holding the input. -/
theorem final_copy (c : Dev nD) : (dats m 0 c).arrAt (2 : Fin 4) cfg0.N = m ((c : Thread nD τ).loc main_arg0) :=
  (dats m 0 c).arrAt_eq_of_cover (2 : Fin 4) _ (flushed_copy m c) fun i => by
    have h0 : (i 0 : Nat) < 32 := (i 0).isLt
    have h1 : (i 1 : Nat) < 1000000 := (i 1).isLt
    have ht : (i 1 : Nat) / 65536 < grid0.N := by rw [N_0]; omega
    refine ⟨⟨(i 1 : Nat) / 65536, ht⟩, flush0_2 _, ?_⟩
    show i ∈ ((View.whole main_v1_0).slice (win0_2.rect ⟨(i 1 : Nat) / 65536, ht⟩)).set
    rw [View.set_slice_whole, Rect.mem_set_unit]
    intro a
    match a with
    | ⟨0, _⟩ =>
      show win0_0.index ⟨(i 1 : Nat) / 65536, ht⟩ 0 * 32 ≤ (i 0 : Nat)
        ∧ (i 0 : Nat) < win0_0.index ⟨(i 1 : Nat) / 65536, ht⟩ 0 * 32 + win0_0.xsize (grid0.coords ⟨(i 1 : Nat) / 65536, ht⟩) 0
      rw [(start _).1, (extent _).1]; omega
    | ⟨1, _⟩ =>
      show win0_0.index ⟨(i 1 : Nat) / 65536, ht⟩ 1 * 65536 ≤ (i 1 : Nat)
        ∧ (i 1 : Nat) < win0_0.index ⟨(i 1 : Nat) / 65536, ht⟩ 1 * 65536 + win0_0.xsize (grid0.coords ⟨(i 1 : Nat) / 65536, ht⟩) 1
      rw [(start _).2, (extent _).2]
      show (i 1 : Nat) / 65536 * 65536 ≤ (i 1 : Nat)
        ∧ (i 1 : Nat) < (i 1 : Nat) / 65536 * 65536 + min 65536 (1000000 - (i 1 : Nat) / 65536 * 65536)
      omega

/-- The second result's one block is all of it. -/
theorem rect_3 (t : Fin grid0.N) : win0_3.index t 0 * 32 = 0 ∧ win0_3.xsize (grid0.coords t) 0 = 32 := by
  rcases fin_N0 t with rfl | rfl | rfl | rfl | rfl | rfl | rfl | rfl | rfl | rfl | rfl | rfl | rfl | rfl | rfl | rfl <;> decide +kernel

/-- The last point writes the positions into the second result, -/
theorem flushed_index (c : Dev nD) (t : Fin cfg0.N) (_ : (cfg0.win (3 : Fin 4)).flush t = true) :
    (dats m 0 c).flushed (3 : Fin 4) t = ((cfg0.win (3 : Fin 4)).blk t).view.read (Elt Ideal) (result m c) := by
  funext j
  change result m c j = result m c ((win0_3.rect t).emb j)
  congr 1
  funext a
  apply Fin.ext
  match a with
  | ⟨0, _⟩ => show (j 0).val = win0_3.index t 0 * 32 + 1 * (j 0).val; rw [(rect_3 t).1]; omega

/-- so the second result ends holding them. -/
theorem final_index (c : Dev nD) : (dats m 0 c).arrAt (3 : Fin 4) cfg0.N = result m c :=
  (dats m 0 c).arrAt_eq_of_cover (3 : Fin 4) _ (flushed_index m c) fun i => by
    have h0 : (i 0 : Nat) < 32 := (i 0).isLt
    refine ⟨t0_15, (flush0_3 t0_15).mpr rfl, ?_⟩
    show i ∈ ((View.whole main_v1_1).slice (win0_3.rect t0_15)).set
    rw [View.set_slice_whole, Rect.mem_set_unit]
    intro a
    match a with
    | ⟨0, _⟩ =>
      show win0_3.index t0_15 0 * 32 ≤ (i 0 : Nat) ∧ (i 0 : Nat) < win0_3.index t0_15 0 * 32 + win0_3.xsize (grid0.coords t0_15) 0
      rw [(rect_3 _).1, (rect_3 _).2]; omega

set_option backward.isDefEq.respectTransparency.types false in
/-- From any memory with every counter at zero, the program ends; the first result holds the input, the second
    every row's first position of its greatest masked value; both arguments hold what they held, and every
    counter is at zero. -/
theorem run : θ_run defs (onTc (τ := τ) (main (F := Ideal))) ⟨m, fun _ => 0, ρ⟩ (fun r => (∀ c : Dev nD,
      r.2.mem ((c.tc : Thread nD τ).loc main_v1_0) = m ((c.tc : Thread nD τ).loc main_arg0)
      ∧ r.2.mem ((c.tc : Thread nD τ).loc main_v1_1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_track cfgs (dats m) (0 : Fin 1) launch0 defs₀ Variants.none m ρ main
    (body_obligation m) (fun c => (dats m 0 c).share_full fun _ => rfl) (fun _ _ => rfl) (V m) (hmain m Variants.none)
    (fun _ _ => rfl) (held_of_any m) (any_of_held m) _
    (fun r h => ⟨fun c => ⟨((h.1 c).1 2).trans (final_copy m c), ((h.1 c).1 3).trans (final_index m c),
      ((h.1 c).1 0).trans (((dats m 0 c).arrAt_in 0 rfl _).trans (V_main_arg0 m c)),
      ((h.1 c).2 main_arg1 (Pipeline.mem_restRefs_of main_arg1 (by decide) (by decide))).trans (V_main_arg1 m c)⟩, h.2⟩)

end Cert.KernelIdeal.Tracked

end
-- ==== Proof.RefRun.lean ====
/- The reference's run: a line of host operations, so every buffer ends at what the line leaves in it. Read
   at the arguments (unchanged) and at the result (the index component of the row reduction). -/
module

public import proofs.«01_k».proof.Proof.Gen.ReferenceIdeal
public import Idealize.ShloMosaic.Lib.StableHlo.Run
public import Idealize.ShloMosaic.Lib.Claim
public import Idealize.ShloMosaic.Adequacy
public import Idealize.ShloMosaic.Init

@[expose] public section

noncomputable section

namespace Cert.ReferenceIdeal.Run

open Cert.ReferenceIdeal Cert.ReferenceIdeal.Gen
open Idealize.ShloMosaic Idealize.ShloMosaic.StableHlo Idealize.SL.Sem
open Idealize.ShloMosaic.TcCoe

variable {F : FTy → Type} [FloatOps F]

/-- The program's operations in order, the two calls inlined. -/
abbrev ops : List (HloOp τ sig (Elt F)) :=
  [ nullary main_cst (constant S_ .f32 0xFF800000#32),
    TRef.unary (.of main_cst) main_call0.v0 id,
    TRef.unary main_call0.v0 main_call0.v1 (broadcastInDim S32x1000000 ![] bcast_S_S32x1000000),
    TRef.ternary (.of main_arg1) (.of main_arg0) main_call0.v1 main_call0.v2 select,
    TRef.nullary main_call1.v0 (iotaInDim S32x1000000 32 1),
    TRef.nullary main_call1.cst (constant S_ .f32 0xFF800000#32),
    TRef.nullary main_call1.c (constantI S_ 32 0#32),
    TRef.quaternary (.of main_v0) main_call1.v0 main_call1.cst main_call1.c main_call1.v1_0
      (fun x y u v j => (Host.argReduce reducer_argmax_f32_i32 x y u v reducesTo_S32x1000000_S32_d1 h_S_ j).1),
    TRef.quaternary (.of main_v0) main_call1.v0 main_call1.cst main_call1.c main_call1.v1_1
      (fun x y u v j => (Host.argReduce reducer_argmax_f32_i32 x y u v reducesTo_S32x1000000_S32_d1 h_S_ j).2) ]

/-- The program is that line. -/
theorem main_eq (c : Dev nD) : main (F := F) c = seq ops := by
  simp only [main, fn_where.body, fn_argmax.body, seq, bind_assoc, pure_bind]

/-- The values entering where the mask is set, minus infinity elsewhere. -/
def chosen (x : Vec F S32x1000000 .f32) (b : Vec F S32x1000000 .i1) : Vec F S32x1000000 .f32 :=
  select b x (broadcastInDim S32x1000000 ![] bcast_S_S32x1000000 (constant S_ .f32 0xFF800000#32))

/-- The line leaves the index result in the second result's buffer. -/
theorem index_eq (V : Valuation τ sig (Elt F)) :
    after ops V (main_v1 : DevRef τ sig) = fun j =>
  (Host.argReduce reducer_argmax_f32_i32 (chosen (F := F) (V (main_arg0 : DevRef τ sig)) (V (main_arg1 : DevRef τ sig))) (iotaInDim S32x1000000 32 1)
    (constant S_ .f32 0xFF800000#32) (constantI S_ 32 0#32) reducesTo_S32x1000000_S32_d1 h_S_ j).2 := by
  after_results_simp
  rfl

/-- The line writes neither argument. -/
theorem arg0_eq (V : Valuation τ sig (Elt F)) :
    after ops V (main_arg0 : DevRef τ sig) = V (main_arg0 : DevRef τ sig) := by
  after_results_simp

/-- The line writes neither argument. -/
theorem arg1_eq (V : Valuation τ sig (Elt F)) :
    after ops V (main_arg1 : DevRef τ sig) = V (main_arg1 : DevRef τ sig) := by
  after_results_simp

/-- The program declares no buffer that lives inside a launch, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every buffer the line touches is one of the core's. -/
theorem ops_sub : (ops : List (HloOp τ sig (Elt F))).Forall fun op => op.bufs ⊆ tcRefs τ sig :=
  ⟨nullary_bufs_sub .., unary_bufs_sub .., unary_bufs_sub .., ternary_bufs_sub .., nullary_bufs_sub ..,
    nullary_bufs_sub .., nullary_bufs_sub .., quaternary_bufs_sub .., quaternary_bufs_sub ..⟩

/-- The reference's run from any memory: the index result, both arguments unchanged, every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1)
          = (fun j =>
  (Host.argReduce reducer_argmax_f32_i32 (chosen (F := F) (m ((c.tc : Thread nD τ).loc main_arg0)) (m ((c.tc : Thread nD τ).loc main_arg1))) (iotaInDim S32x1000000 32 1)
    (constant S_ .f32 0xFF800000#32) (constantI S_ 32 0#32) reducesTo_S32x1000000_S32_d1 h_S_ j).2)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v1).trans (index_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.ReferenceIdeal.Run

end
-- ==== Proof.RefValue.lean ====
/- What the reference's index result is on extended reals: in each row, the first position of the greatest
   value among those the mask lets through (the others count as minus infinity). -/
module

public import proofs.«01_k».proof.Proof.RefRun
public import proofs.«01_k».proof.Proof.Spec
public import Idealize.ShloMosaic.PureOps.Ideal.Laws
public import Idealize.ShloMosaic.Lib.ValueIdx
public import Idealize.ShloMosaic.Lib.Pipeline.Value

@[expose] public section

noncomputable section

namespace Cert.ReferenceIdeal.Value

open Cert.ReferenceIdeal Cert.ReferenceIdeal.Gen Cert.ReferenceIdeal.Run Cert.Spec
open Idealize.ShloMosaic Idealize.ShloMosaic.ValueIdx

/-- The pair `p` is no better than `q`: smaller, or as great and at no earlier position. -/
def NoBetter (p q : EReal × BitVec 32) : Prop := p.1 < q.1 ∨ (p.1 = q.1 ∧ q.2.toInt ≤ p.2.toInt)

theorem NoBetter.refl (p : EReal × BitVec 32) : NoBetter p p := .inr ⟨rfl, le_rfl⟩

theorem NoBetter.trans {p q s : EReal × BitVec 32} (h : NoBetter p q) (h' : NoBetter q s) : NoBetter p s := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- One step of the reference's reduction returns one of its two pairs, and the better one. -/
theorem reducer_spec (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  obtain ⟨a, i⟩ := a
  obtain ⟨b, j⟩ := b
  simp only [reducer_argmax_f32_i32, Ideal.cmpf_def, Ideal.cmp]
  rcases lt_trichotomy a b with h | h | h
  · have h1 : ¬b < a := not_lt.mpr h.le
    simp [NoBetter, Scalar.select, IntOp.ori, IntOp.andi, h, h1, h.ne]
  · subst h
    rcases lt_or_ge i.toInt j.toInt with hi | hi
    · have : i.slt j = true := by simpa [BitVec.slt] using hi
      simp [NoBetter, Scalar.select, IntOp.ori, IntOp.andi, IntOp.cmpi, this, hi.le]
    · have : i.slt j = false := by simpa [BitVec.slt] using hi
      simp [NoBetter, Scalar.select, IntOp.ori, IntOp.andi, IntOp.cmpi, this, hi]
  · have h1 : (BitVec.ofBool (decide (b < a))) = 1#1 := by rw [decide_eq_true h]; rfl
    have h2 : (BitVec.ofBool (decide (a = b))) = 0#1 := by rw [decide_eq_false h.ne']; rfl
    simp [NoBetter, Scalar.select, IntOp.ori, IntOp.andi, h1, h2, h]

/-- So the reduction of a list returns its initial pair or a member, and nothing in the list is better. -/
theorem foldl_spec (l : List (EReal × BitVec 32)) (a : EReal × BitVec 32) :
    (l.foldl (reducer_argmax_f32_i32 (F := Ideal)) a = a ∨ l.foldl (reducer_argmax_f32_i32 (F := Ideal)) a ∈ l)
      ∧ NoBetter a (l.foldl (reducer_argmax_f32_i32 (F := Ideal)) a)
      ∧ ∀ p ∈ l, NoBetter p (l.foldl (reducer_argmax_f32_i32 (F := Ideal)) a) := by
  induction l generalizing a with
  | nil => exact ⟨.inl rfl, NoBetter.refl _, fun _ h => nomatch h⟩
  | cons p l ih =>
    rw [List.foldl_cons]
    obtain ⟨hsel, ha, hp⟩ := reducer_spec a p
    obtain ⟨hmem, hle, hall⟩ := ih (reducer_argmax_f32_i32 (F := Ideal) a p)
    refine ⟨?_, ha.trans hle, fun q hq => ?_⟩
    · rcases hmem with h | h
      · rw [h]
        rcases hsel with e | e <;> rw [e]
        · exact .inl rfl
        · exact .inr List.mem_cons_self
      · exact .inr (List.mem_cons_of_mem _ h)
    · rcases List.mem_cons.mp hq with rfl | hq
      · exact hp.trans hle
      · exact hall q hq

/-- The pattern of minus infinity is the least extended real. -/
theorem ofBits_bot : (FloatOps.ofBits (F := Ideal) .f32 0xFF800000#32 : EReal) = ⊥ := by
  show Ideal.ofBits .f32 0xFF800000#32 = ⊥
  simp [Ideal.ofBits, Ideal.ieee]

/-- The reference's masked array at a position is the row's value there. -/
theorem chosen_apply (x : Vec Ideal S32x1000000 .f32) (b : Vec Ideal S32x1000000 .i1) (r : Fin 32) (k : Fin 1000000) :
    chosen (F := Ideal) x b (ix2 r k) = row x b r k.val := by
  unfold row
  rw [dif_pos k.isLt]
  show Scalar.select (b (ix2 r k)) (x (ix2 r k)) (FloatOps.ofBits (F := Ideal) .f32 0xFF800000#32) = _
  rw [ofBits_bot]
  rfl

/-- Dropping the column of a position leaves its row. -/
theorem drop_ix2 (a : Fin 32) (k : Fin 1000000) : reducesTo_S32x1000000_S32_d1.drop (ix2 a k) = ix1 a := by
  funext d
  match d with
  | ⟨0, _⟩ => rfl

/-- The pairs the reduction of row `r` runs over: every position of the row with its value. -/
theorem mem_fiber (x : Vec Ideal S32x1000000 .f32) (b : Vec Ideal S32x1000000 .i1) (r : Fin 32) (p : Ideal .f32 × BitVec 32) :
    p ∈ Host.argReduceFiber (chosen (F := Ideal) x b) (iotaInDim S32x1000000 32 1) reducesTo_S32x1000000_S32_d1 (ix1 r)
      ↔ ∃ k < 1000000, p = (row x b r k, BitVec.ofNat 32 k) := by
  unfold Host.argReduceFiber
  rw [List.mem_map]
  constructor
  · rintro ⟨n, hn, rfl⟩
    have hn := of_decide_eq_true (List.mem_filter.mp hn).2
    revert hn
    generalize S32x1000000.rowMajor.symm n = i
    obtain ⟨a, k, rfl⟩ : ∃ (a : Fin 32) (k : Fin 1000000), i = ix2 a k := ⟨i 0, i 1, eq_ix2 i⟩
    intro hn
    rw [drop_ix2] at hn
    obtain rfl : a = r := congrFun hn 0
    exact ⟨k.val, k.isLt, Prod.ext (chosen_apply x b a k) rfl⟩
  · rintro ⟨k, hk, rfl⟩
    refine ⟨S32x1000000.rowMajor (ix2 r ⟨k, hk⟩), List.mem_filter.mpr ⟨List.mem_finRange _, decide_eq_true ?_⟩, ?_⟩
    · rw [Equiv.symm_apply_apply]; exact drop_ix2 r ⟨k, hk⟩
    · rw [Equiv.symm_apply_apply]; exact Prod.ext (chosen_apply x b r ⟨k, hk⟩) rfl

/-- The reduction, from minus infinity at zero, of a list of the pairs of a nonempty row's positions and values
    returns the first position of the greatest value. -/
theorem foldl_first (l : List (EReal × BitVec 32)) (f : ℕ → EReal) (n : ℕ) (h0 : 0 < n) (hn : n ≤ 2 ^ 31)
    (hl : ∀ p, p ∈ l ↔ ∃ k < n, p = (f k, BitVec.ofNat 32 k)) :
    (l.foldl (reducer_argmax_f32_i32 (F := Ideal)) (⊥, 0#32)).2 = BitVec.ofNat 32 (first f n) := by
  obtain ⟨hmem, hinit, hall⟩ := foldl_spec l (⊥, 0#32)
  generalize List.foldl _ _ _ = p at hmem hinit hall ⊢
  have small : ∀ k < n, (BitVec.ofNat 32 k).toInt = k := fun k hk => by
    rw [BitVec.toInt_ofNat', Int.bmod_eq_of_le] <;> omega
  have least : ∀ k < n, NoBetter (f k, BitVec.ofNat 32 k) p := fun k hk => hall _ ((hl _).mpr ⟨k, hk, rfl⟩)
  obtain ⟨i, hi, rfl⟩ : ∃ i < n, p = (f i, BitVec.ofNat 32 i) := by
    rcases hmem with rfl | h
    · refine ⟨0, h0, ?_⟩
      rcases least 0 h0 with h | ⟨h, _⟩
      · exact absurd h not_lt_bot
      · exact Prod.ext h.symm rfl
    · exact (hl _).mp h
  have hfirst : IsFirst f n i := by
    refine ⟨hi, fun k hk => ?_, fun k hk => ?_⟩
    · rcases least k hk with h | ⟨h, _⟩
      · exact h.le
      · exact h.le
    · rcases least k (hk.trans hi) with h | ⟨_, h⟩
      · exact h
      · simp only [small k (hk.trans hi), small i hi] at h
        omega
  rw [← hfirst.eq_first]

/-- The reference's reduction in any row is the left fold of its step over the row's pairs. -/
theorem argReduce_foldl (z : FVec Ideal S32x1000000 .f32) (y : IVec S32x1000000 32) (u : FVec Ideal S_ .f32) (w : IVec S_ 32)
    (j : S32.Idx) :
    Host.argReduce (reducer_argmax_f32_i32 (F := Ideal)) z y u w reducesTo_S32x1000000_S32_d1 h_S_ j
      = (Host.argReduceFiber z y reducesTo_S32x1000000_S32_d1 j).foldl (reducer_argmax_f32_i32 (F := Ideal))
          (u (Shape.Idx.first h_S_), w (Shape.Idx.first h_S_)) :=
  (congrFun (Ideal.argReduce_eq_reduce2 _ z y u w _ _) j).trans (Host.reduce2_eq_foldl_fiber _ z y u w _ _ j)

/-- The two initial values are minus infinity and zero. -/
theorem init_eq : (constant (F := Ideal) S_ .f32 0xFF800000#32 (Shape.Idx.first h_S_), constantI S_ 32 0#32 (Shape.Idx.first h_S_))
      = ((⊥ : EReal), 0#32) := Prod.ext ofBits_bot rfl

/-- The fold of a million positions' pairs, from the reference's two initial values. -/
theorem foldl_first_row (f : ℕ → EReal) (l : List (Ideal .f32 × BitVec 32))
    (h : ∀ p : Ideal .f32 × BitVec 32, p ∈ l ↔ ∃ k < 1000000, p = (f k, BitVec.ofNat 32 k)) :
    (l.foldl (reducer_argmax_f32_i32 (F := Ideal))
      (constant (F := Ideal) S_ .f32 0xFF800000#32 (Shape.Idx.first h_S_), constantI S_ 32 0#32 (Shape.Idx.first h_S_))).2
      = BitVec.ofNat 32 (first f 1000000) :=
  (congrArg (fun q : Ideal .f32 × BitVec 32 => (l.foldl (reducer_argmax_f32_i32 (F := Ideal)) q).2) init_eq).trans
    (foldl_first l f 1000000 (by norm_num) (by norm_num) h)

/-- The reference's index result, in each row, is the first position of the row's greatest value. -/
theorem index_apply (x : Vec Ideal S32x1000000 .f32) (b : Vec Ideal S32x1000000 .i1) (r : Fin 32) :
    (Host.argReduce (reducer_argmax_f32_i32 (F := Ideal)) (chosen (F := Ideal) x b) (iotaInDim S32x1000000 32 1)
      (constant (F := Ideal) S_ .f32 0xFF800000#32) (constantI S_ 32 0#32) reducesTo_S32x1000000_S32_d1 h_S_ (ix1 r)).2
      = BitVec.ofNat 32 (first (row x b r) 1000000) :=
  Eq.trans (congrArg Prod.snd (argReduce_foldl _ _ _ _ _)) (foldl_first_row (row x b r)
    (Host.argReduceFiber (chosen (F := Ideal) x b) (iotaInDim S32x1000000 32 1) reducesTo_S32x1000000_S32_d1 (ix1 r))
    (mem_fiber x b r))

end Cert.ReferenceIdeal.Value

end
-- ==== Proof.lean ====
/- The certificate's claims, assembled: the kernel's frame on bits, the kernel's and the reference's runs on
   extended reals, and that the two leave equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Tracked
public import proofs.«01_k».proof.Proof.RefRun
public import proofs.«01_k».proof.Proof.RefValue
public import Idealize.ShloMosaic.Adequacy
public import Idealize.ShloMosaic.Init

@[expose] public section

noncomputable section

namespace Cert.Proof

open Idealize.ShloMosaic Idealize.ShloMosaic.ValueIdx Idealize.SL.Sem

/-- The kernel on bits ends with both arguments unchanged and every counter at zero. -/
theorem kernel_frame : Cert.quiescent_Kernel := fun m g _ => Cert.Kernel.Run.frame_run m g

/-- So does the kernel on extended reals, -/
theorem ideal_frame : Cert.quiescent_KernelIdeal := fun m g _ =>
  (θ_run _ _ _).mono (fun _ h => ⟨fun c => (h.1 c).2.2, h.2⟩) (Cert.KernelIdeal.Tracked.run m g)

/-- and the reference. -/
theorem reference_frame : Cert.quiescent_ReferenceIdeal := fun m g _ =>
  (θ_run _ _ _).mono (fun _ h => ⟨fun c => (h.1 c).2, h.2⟩) (Cert.ReferenceIdeal.Run.run m g)

/-- On extended reals the kernel's first result is the input, as the reference's is, and the second is every
    row's first position of its greatest masked value, as the reference's is. -/
theorem equal_results : Cert.algebraic_KernelIdeal_ReferenceIdeal := fun m g m' g' _ hargs =>
  ⟨fun c => m ((c.tc : Thread Cert.KernelIdeal.nD Cert.KernelIdeal.τ).loc Cert.KernelIdeal.main_arg0),
    fun c => Cert.KernelIdeal.Scan.result m c,
    (θ_run _ _ _).mono (fun _ h c => h.1 c) (Cert.KernelIdeal.Tracked.run m g),
    (θ_run _ _ _).mono (fun _ h c => ⟨(h.1 c).2.1.trans (hargs c).1,
      (h.1 c).1.trans (funext fun j => by
        obtain ⟨r, rfl⟩ : ∃ r : Fin 32, j = ix1 r := ⟨j 0, eq_ix1 j⟩
        refine (Cert.ReferenceIdeal.Value.index_apply _ _ r).trans ?_
        rw [(hargs c).1, (hargs c).2]
        rfl), (h.1 c).2⟩)
      (Cert.ReferenceIdeal.Run.run m' g')⟩

/-- Everything the certificate claims. -/
theorem claim : Cert.Claim := ⟨Cert.Kernel.Gen.facts, Cert.KernelIdeal.Gen.facts, Cert.ReferenceIdeal.Gen.facts,
  kernel_frame, ideal_frame, reference_frame, trivial, equal_results⟩

end Cert.Proof

end
